-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_scale [hPre_normal_scale : Cert.Pre_normal_scale.Facts] (m : (ℓ : Loc Cert.KernelIdeal.nD Cert.KernelIdeal.τ Cert.KernelIdeal.sig) → Buf (Elt Ideal) ℓ) : Prop :=
  ∀ c : Dev Cert.KernelIdeal.nD,
    (Cert.Pre_normal_scale.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_scale [hPre_normal_scale : Cert.Pre_normal_scale.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_scale.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_scale [hKernelIdeal : Cert.KernelIdeal.Facts] [hPre_normal_scale : Cert.Pre_normal_scale.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_scale m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_scale [hReferenceIdeal : Cert.ReferenceIdeal.Facts] [hPre_normal_scale : Cert.Pre_normal_scale.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_scale m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal_scale [hKernelIdeal : Cert.KernelIdeal.Facts] [hReferenceIdeal : Cert.ReferenceIdeal.Facts] [hPre_normal_scale : Cert.Pre_normal_scale.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_scale m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_scale : Cert.Pre_normal_scale.Facts),
    quiescent_Kernel (hKernel := hKernel)
    ∧ quiescent_KernelIdeal (hKernelIdeal := hKernelIdeal)
    ∧ quiescent_KernelIdeal_pre_normal_scale (hKernelIdeal := hKernelIdeal) (hPre_normal_scale := hPre_normal_scale)
    ∧ quiescent_ReferenceIdeal (hReferenceIdeal := hReferenceIdeal)
    ∧ quiescent_ReferenceIdeal_pre_normal_scale (hReferenceIdeal := hReferenceIdeal) (hPre_normal_scale := hPre_normal_scale)
    ∧ preserves_Kernel_KernelIdeal
    ∧ algebraic_KernelIdeal_ReferenceIdeal_pre_normal_scale (hKernelIdeal := hKernelIdeal) (hReferenceIdeal := hReferenceIdeal) (hPre_normal_scale := hPre_normal_scale)
-- ==== Pre_normal_scale.lean ====
abbrev S64x1x13824 : Shape := ⟨3, ![64, 1, 13824]⟩
abbrev S1 : Shape := ⟨1, ![1]⟩
abbrev S13824x5120 : Shape := ⟨2, ![13824, 5120]⟩
abbrev S5120 : Shape := ⟨1, ![5120]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S64x1x13824 .bf16) (main_arg1 : FVec F S1 .f32) (main_arg2 : FVec F S13824x5120 .fp8e4m3) (main_arg3 : FVec F S5120 .f32) : IVec S1 1 :=
  let main_cst : FVec F S_ .f32 := constant S_ .f32 0x00800000#32
  let main_v0 : FVec F S1 .f32 := broadcastInDim S1 ![] bcast_S_S1 main_cst
  let main_v1 : IVec S1 1 := cmpf .oge main_arg1 main_v0
  let main_cst_0 : FVec F S_ .f32 := constant S_ .f32 0x7F7FFFFF#32
  let main_v2 : FVec F S1 .f32 := broadcastInDim S1 ![] bcast_S_S1 main_cst_0
  let main_v3 : IVec S1 1 := cmpf .ole main_arg1 main_v2
  let main_v4 : IVec S1 1 := andi main_v1 main_v3
  main_v4
-- ==== Kernel.lean ====
abbrev S64x1x13824 : Shape := ⟨3, ![64, 1, 13824]⟩
abbrev S1 : Shape := ⟨1, ![1]⟩
abbrev S13824x5120 : Shape := ⟨2, ![13824, 5120]⟩
abbrev S5120 : Shape := ⟨1, ![5120]⟩
abbrev S64x13824 : Shape := ⟨2, ![64, 13824]⟩
abbrev S1x5120 : Shape := ⟨2, ![1, 5120]⟩
abbrev S64x5120 : Shape := ⟨2, ![64, 5120]⟩
abbrev S64x512 : Shape := ⟨2, ![64, 512]⟩
abbrev S512x5120 : Shape := ⟨2, ![512, 5120]⟩
abbrev S1x128 : Shape := ⟨2, ![1, 128]⟩
abbrev S1x1 : Shape := ⟨2, ![1, 1]⟩
abbrev S64x1x5120 : Shape := ⟨3, ![64, 1, 5120]⟩

abbrev nBuf : Space → Nat
  | .hbm => 11
  | .vmem => 9
  | .smem => 2
  | _ => 0

abbrev bufTy : (tb : Table) → Fin (tcTables nBuf tb) → BufTy
  | .hbm, ⟨0, _⟩ => ⟨S64x1x13824, .bf16⟩
  | .hbm, ⟨1, _⟩ => ⟨S1, .f32⟩
  | .hbm, ⟨2, _⟩ => ⟨S13824x5120, .fp8e4m3⟩
  | .hbm, ⟨3, _⟩ => ⟨S5120, .f32⟩
  | .hbm, ⟨4, _⟩ => ⟨S64x13824, .bf16⟩
  | .hbm, ⟨5, _⟩ => ⟨S1x5120, .f32⟩
  | .hbm, ⟨6, _⟩ => ⟨S64x5120, .bf16⟩
  | .hbm, ⟨7, _⟩ => ⟨S64x13824, .fp8e4m3⟩
  | .hbm, ⟨8, _⟩ => ⟨S1, .f32⟩
  | .hbm, ⟨9, _⟩ => ⟨S64x1x5120, .bf16⟩
  | .hbm, ⟨10, _⟩ => ⟨S64x1x13824, .fp8e4m3⟩
  | .local _ .vmem, ⟨0, _⟩ => ⟨S64x512, .bf16⟩
  | .local _ .vmem, ⟨1, _⟩ => ⟨S64x512, .bf16⟩
  | .local _ .vmem, ⟨2, _⟩ => ⟨S512x5120, .fp8e4m3⟩
  | .local _ .vmem, ⟨3, _⟩ => ⟨S512x5120, .fp8e4m3⟩
  | .local _ .vmem, ⟨4, _⟩ => ⟨S1x5120, .f32⟩
  | .local _ .vmem, ⟨5, _⟩ => ⟨S64x5120, .bf16⟩
  | .local _ .vmem, ⟨6, _⟩ => ⟨S64x512, .fp8e4m3⟩
  | .local _ .vmem, ⟨7, _⟩ => ⟨S64x512, .fp8e4m3⟩
  | .local _ .vmem, ⟨8, _⟩ => ⟨S64x5120, .f32⟩
  | .local _ .smem, ⟨0, _⟩ => ⟨S1, .f32⟩
  | .local _ .smem, ⟨1, _⟩ => ⟨S1, .f32⟩
  | _, _ => ⟨S64x1x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg6_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![27], ![false]⟩

def k0_cond3 (i : grid0.Coords) : BitVec 1 :=
  let arg0 : BitVec 32 := BitVec.ofNat 32 (i 0).val
  let c26_i32 : BitVec 32 := 26#32
  let v132 : BitVec 1 := Scalar.cmpi .eq arg0 c26_i32
  let v133 : BitVec 32 := Scalar.extui v132
  let c0_i32_53 : BitVec 32 := 0#32
  let v134 : BitVec 1 := Scalar.cmpi .ne v133 c0_i32_53
  v134

def k0_cond1 (i : grid0.Coords) : BitVec 1 :=
  let arg0 : BitVec 32 := BitVec.ofNat 32 (i 0).val
  let c0_i32 : BitVec 32 := 0#32
  let v126 : BitVec 1 := Scalar.cmpi .eq arg0 c0_i32
  let v127 : BitVec 32 := Scalar.extui v126
  let c0_i32_50 : BitVec 32 := 0#32
  let v128 : BitVec 1 := Scalar.cmpi .ne v127 c0_i32_50
  v128

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x512 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S64x1x13824 : Shape := ⟨3, ![64, 1, 13824]⟩
abbrev S1 : Shape := ⟨1, ![1]⟩
abbrev S13824x5120 : Shape := ⟨2, ![13824, 5120]⟩
abbrev S5120 : Shape := ⟨1, ![5120]⟩
abbrev S64x1x5120 : Shape := ⟨3, ![64, 1, 5120]⟩
abbrev S1x1x5120 : Shape := ⟨3, ![1, 1, 5120]⟩

abbrev nBuf : Space → Nat
  | .hbm => 7
  | .vmem => 7
  | .smem => 0
  | _ => 0

abbrev bufTy : (tb : Table) → Fin (tcTables nBuf tb) → BufTy
  | .hbm, ⟨0, _⟩ => ⟨S64x1x13824, .bf16⟩
  | .hbm, ⟨1, _⟩ => ⟨S1, .f32⟩
  | .hbm, ⟨2, _⟩ => ⟨S13824x5120, .fp8e4m3⟩
  | .hbm, ⟨3, _⟩ => ⟨S5120, .f32⟩
  | .hbm, ⟨4, _⟩ => ⟨S64x1x5120, .bf16⟩
  | .hbm, ⟨5, _⟩ => ⟨S64x1x13824, .fp8e4m3⟩
  | .hbm, ⟨6, _⟩ => ⟨S1, .f32⟩
  | .local _ .vmem, ⟨0, _⟩ => ⟨S64x1x13824, .bf16⟩
  | .local _ .vmem, ⟨1, _⟩ => ⟨S1, .f32⟩
  | .local _ .vmem, ⟨2, _⟩ => ⟨S13824x5120, .fp8e4m3⟩
  | .local _ .vmem, ⟨3, _⟩ => ⟨S5120, .f32⟩
  | .local _ .vmem, ⟨4, _⟩ => ⟨S64x1x5120, .bf16⟩
  | .local _ .vmem, ⟨5, _⟩ => ⟨S64x1x13824, .fp8e4m3⟩
  | .local _ .vmem, ⟨6, _⟩ => ⟨S1, .f32⟩
  | _, _ => ⟨S64x1x13824, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x1x13824 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13824x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1x13824 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Body.lean ====
/-
  The kernel body at one grid point, as a statement about buffer contents: with the inputs' staging buffers at
  `x0` (the activation scale), `x1` (a block of activations), `x2` (a block of weight codes) and `x3` (the weight
  scales), and the accumulator at `a`, the body
    - leaves the block's activation codes `codes x0 x1` in the codes window, at every point;
    - leaves `dot x0 x1 x2` in the accumulator at the first point and `a + dot x0 x1 x2` at the others;
    - copies the activation scale into the third result's word at the first point and nowhere else;
    - stores `act x0 x3` of the accumulator in the first result's window at the last point and nowhere else.
  Everything here holds for any reading of the float operations.
-/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's simp only [View.readAt_eq_ld, View.readCov_full, harg1.read_unread, harg2.read_unread, harg3.read_unread, harg4.read_unread,
   harg8.read_unread, View.ld_unit_zero (S := S64x512) hz2, View.ld_unit_zero (S := S512x5120) hz2,
   View.ld_unit_zero (S := S1x5120) hz2, View.ld_unit_zero (S := S64x5120) hz2]
 try simp only [pay1_eq, pay2_eq, View.readCov_unit_zero (S := S64x5120) _ hz2]
 generalize hw : View.ld x0 (Rect.unit (s := S1) ![0] ![1] inb_S1_S1_0) (Shape.Idx.first _) = w
 obtain rfl : w = word x0 := hw.symm.trans (one_word x0 _ _)
 rfl -/

/-- The one word of a scale. -/
abbrev word (x0 : Vec F S1 .f32) : Elt F .f32 := x0 (fun a => ⟨0, by fin_cases a; exact Nat.one_pos⟩)

/-- The codes of a block of activations: clipped `x * inverse(scale)`, cast to the 8-bit format. -/
abbrev codesW (s : Elt F .f32) (x1 : Vec F S64x512 .bf16) : Vec F S64x512 .fp8e4m3 :=
  k0_pay29 (k0_pay26 (k0_pay15 s)) (k0_pay27 (k0_pay13 s) (k0_pay14 s) (k0_pay15 s) (k0_pay16 s)) (k0_pay28 (k0_pay15 s))
    (Scalar.ofBits .f32 0x43800000#32) x1

/-- A block's product: its codes against the block of weight codes. -/
abbrev dotW (s : Elt F .f32) (x1 : Vec F S64x512 .bf16) (x2 : Vec F S512x5120 .fp8e4m3) : Vec F S64x5120 .f32 :=
  k0_pay30 (k0_pay26 (k0_pay15 s)) (k0_pay27 (k0_pay13 s) (k0_pay14 s) (k0_pay15 s) (k0_pay16 s)) (k0_pay28 (k0_pay15 s))
    (Scalar.ofBits .f32 0x43800000#32) x1 x2

/-! ## The branch conditions and the idle points -/

/-- The condition of the body's first branch: the first point. -/
abbrev cond0_0 (i : grid0.Coords) : Prop := k0_cond1 i = 1#1
theorem hcond0_0 : ∀ t : Fin cfg0.N, cond0_0 (grid0.coords t) ↔ t.val = 0 :=
  (by decide +kernel : ∀ t : Fin grid0.N, cond0_0 (grid0.coords t) ↔ t.val = 0)

/-- The condition of the body's second branch: every point but the first. -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ t.val ≠ 0 :=
  (by decide +kernel : ∀ t : Fin grid0.N, cond0_1 (grid0.coords t) ↔ t.val ≠ 0)

/-- The condition of the body's third branch: the last point. -/
abbrev cond0_2 (i : grid0.Coords) : Prop := k0_cond3 i = 1#1
theorem hcond0_2 : ∀ t : Fin cfg0.N, cond0_2 (grid0.coords t) ↔ t.val = 26 :=
  (by decide +kernel : ∀ t : Fin grid0.N, cond0_2 (grid0.coords t) ↔ t.val = 26)

/-- The first result's window is stored into at the last point only, -/
theorem idle4 : ∀ t : Fin cfg0.N, cfg0.idle 4 (grid0.coords t) = !decide (t.val = 26) :=
  (by decide +kernel : ∀ t : Fin grid0.N, cfg0.idle 4 (grid0.coords t) = !decide (t.val = 26))
/-- the third's at the first point only. -/
theorem idle6 : ∀ t : Fin cfg0.N, cfg0.idle 6 (grid0.coords t) = !decide (t.val = 0) :=
  (by decide +kernel : ∀ t : Fin grid0.N, cfg0.idle 6 (grid0.coords t) = !decide (t.val = 0))
/-- Both are written back at the last point only. -/
theorem flush4 (t : Fin cfg0.N) : (cfg0.win 4).flush t = decide (t.val = 26) := by
  have hN : t.val < 27 := lt_of_lt_of_eq t.isLt (show cfg0.N = 27 from N_0)
  rw [Bool.eq_iff_iff, flush0_4, decide_eq_true_iff]; omega
theorem flush6 (t : Fin cfg0.N) : (cfg0.win 6).flush t = decide (t.val = 26) := by
  have hN : t.val < 27 := lt_of_lt_of_eq t.isLt (show cfg0.N = 27 from N_0)
  rw [Bool.eq_iff_iff, flush0_6, decide_eq_true_iff]; omega
/-- An output window is never fetched. -/
theorem fetch6 (t : Fin cfg0.N) : (cfg0.win 6).fetch t = false := rfl

theorem hz1 : (![0] : Fin 1 → Nat) = fun _ => 0 := funext fun a => by fin_cases a; rfl
theorem hz2 : (![0, 0] : Fin 2 → Nat) = fun _ => 0 := funext fun a => by fin_cases a <;> rfl

/-- A one-word vector is constant. -/
theorem one_word (x : Vec F S1 .f32) (i j : S1.Idx) : x i = x j :=
  congrArg x (funext fun a => Fin.ext (by fin_cases a; have h := (i 0).isLt; have h' := (j 0).isLt; change (i 0).val < 1 at h; change (j 0).val < 1 at h'; show (i 0).val = (j 0).val; omega))

theorem pay1_eq (d : Vec F S64x5120 .f32) : k0_pay1 d = d := shapeCast_self _ _

theorem pay2_eq (d a : Vec F S64x5120 .f32) : k0_pay2 d a = addf a d := shapeCast_self _ _

/-! ## The body, run in its three cases -/

set_option maxHeartbeats 2000000 in
/-- The first point: the codes, the product into the accumulator, the scale's word copied out; the first result's window is left as found. -/
theorem run_A (c : Dev nD) (i : grid0.Coords) (arg1 : Memref sig .tc .smem S1 .f32) (harg1 : arg1.IsWhole) (arg2 : Memref sig .tc .vmem S64x512 .bf16) (harg2 : arg2.IsWhole) (arg3 : Memref sig .tc .vmem S512x5120 .fp8e4m3) (harg3 : arg3.IsWhole) (arg4 : Memref sig .tc .vmem S1x5120 .f32) (harg4 : arg4.IsWhole) (arg5 : Memref sig .tc .vmem S64x5120 .bf16) (harg5 : arg5.IsWhole) (arg6 : Memref sig .tc .vmem S64x512 .fp8e4m3) (harg6 : arg6.IsWhole) (arg7 : Memref sig .tc .smem S1 .f32) (harg7 : arg7.IsWhole) (arg8 : Memref sig .tc .vmem S64x5120 .f32) (harg8 : arg8.IsWhole) (hc0 : cond0_0 i) (hc1 : ¬cond0_1 i) (hc2 : ¬cond0_2 i)
    (x0 : Vec F S1 .f32) (x1 : Vec F S64x512 .bf16) (x2 : Vec F S512x5120 .fp8e4m3) (x3 : Vec F S1x5120 .f32) (x4 : Vec F S64x5120 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesW (word x0) x1) ∗ owns (c : Thread nD τ) arg7 fullShare x0 ∗ owns (c : Thread nD τ) arg8 fullShare (dotW (word x0) x1 x2)) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_full]
    simp only [View.readAt_eq_ld, View.readCov_full, harg1.read_unread, harg2.read_unread, harg3.read_unread, harg4.read_unread,
      harg8.read_unread, View.ld_unit_zero (S := S64x512) hz2, View.ld_unit_zero (S := S512x5120) hz2,
      View.ld_unit_zero (S := S1x5120) hz2, View.ld_unit_zero (S := S64x5120) hz2]
    try simp only [pay1_eq, pay2_eq, View.readCov_unit_zero (S := S64x5120) _ hz2]
    generalize hw : View.ld x0 (Rect.unit (s := S1) ![0] ![1] inb_S1_S1_0) (Shape.Idx.first _) = w
    obtain rfl : w = word x0 := hw.symm.trans (one_word x0 _ _)
    rfl
  isplitl [H7]
  · iexists _; isplitr; swap; · iexact H7
    ipureintro
    sl_unfold_words
    rw [View.read_writes_full]
    simp only [View.readAt_eq_ld, harg1.read_unread]; funext j; exact one_word (F := F) x0 _ _
  iexists _; isplitr; swap; · iexact H8
  ipureintro
  sl_unfold_words
  rw [View.read_writes_full]
  simp only [View.readAt_eq_ld, View.readCov_full, harg1.read_unread, harg2.read_unread, harg3.read_unread, harg4.read_unread,
    harg8.read_unread, View.ld_unit_zero (S := S64x512) hz2, View.ld_unit_zero (S := S512x5120) hz2,
    View.ld_unit_zero (S := S1x5120) hz2, View.ld_unit_zero (S := S64x5120) hz2]
  try simp only [pay1_eq, pay2_eq, View.readCov_unit_zero (S := S64x5120) _ hz2]
  generalize hw : View.ld x0 (Rect.unit (s := S1) ![0] ![1] inb_S1_S1_0) (Shape.Idx.first _) = w
  obtain rfl : w = word x0 := hw.symm.trans (one_word x0 _ _)
  rfl

set_option maxHeartbeats 2000000 in
/-- A point between: the codes, the product added to the accumulator; the first and third results' buffers are left as found. -/
theorem run_B (c : Dev nD) (i : grid0.Coords) (arg1 : Memref sig .tc .smem S1 .f32) (harg1 : arg1.IsWhole) (arg2 : Memref sig .tc .vmem S64x512 .bf16) (harg2 : arg2.IsWhole) (arg3 : Memref sig .tc .vmem S512x5120 .fp8e4m3) (harg3 : arg3.IsWhole) (arg4 : Memref sig .tc .vmem S1x5120 .f32) (harg4 : arg4.IsWhole) (arg5 : Memref sig .tc .vmem S64x5120 .bf16) (harg5 : arg5.IsWhole) (arg6 : Memref sig .tc .vmem S64x512 .fp8e4m3) (harg6 : arg6.IsWhole) (arg7 : Memref sig .tc .smem S1 .f32) (harg7 : arg7.IsWhole) (arg8 : Memref sig .tc .vmem S64x5120 .f32) (harg8 : arg8.IsWhole) (hc0 : ¬cond0_0 i) (hc1 : cond0_1 i) (hc2 : ¬cond0_2 i)
    (x0 : Vec F S1 .f32) (x1 : Vec F S64x512 .bf16) (x2 : Vec F S512x5120 .fp8e4m3) (x3 : Vec F S1x5120 .f32) (x4 : Vec F S64x5120 .bf16) (x6 : Vec F S1 .f32) (a : Vec F S64x5120 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare x6 ∗ owns (c : Thread nD τ) arg8 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesW (word x0) x1) ∗ owns (c : Thread nD τ) arg7 fullShare x6 ∗ owns (c : Thread nD τ) arg8 fullShare (addf a (dotW (word x0) x1 x2))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg5.eq_unread hf5; obtain rfl := harg7.eq_unread hf7; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    sl_unfold_words
    rw [View.read_writes_full]
    simp only [View.readAt_eq_ld, View.readCov_full, harg1.read_unread, harg2.read_unread, harg3.read_unread, harg4.read_unread,
      harg8.read_unread, View.ld_unit_zero (S := S64x512) hz2, View.ld_unit_zero (S := S512x5120) hz2,
      View.ld_unit_zero (S := S1x5120) hz2, View.ld_unit_zero (S := S64x5120) hz2]
    try simp only [pay1_eq, pay2_eq, View.readCov_unit_zero (S := S64x5120) _ hz2]
    generalize hw : View.ld x0 (Rect.unit (s := S1) ![0] ![1] inb_S1_S1_0) (Shape.Idx.first _) = w
    obtain rfl : w = word x0 := hw.symm.trans (one_word x0 _ _)
    rfl
  isplitl [H7]
  · iexists _; isplitr; · ipureintro; exact harg7.read_unread _
    iexact H7
  iexists _; isplitr; swap; · iexact H8
  ipureintro
  sl_unfold_words
  rw [View.read_writes_full]
  simp only [View.readAt_eq_ld, View.readCov_full, harg1.read_unread, harg2.read_unread, harg3.read_unread, harg4.read_unread,
    harg8.read_unread, View.ld_unit_zero (S := S64x512) hz2, View.ld_unit_zero (S := S512x5120) hz2,
    View.ld_unit_zero (S := S1x5120) hz2, View.ld_unit_zero (S := S64x5120) hz2]
  try simp only [pay1_eq, pay2_eq, View.readCov_unit_zero (S := S64x5120) _ hz2]
  generalize hw : View.ld x0 (Rect.unit (s := S1) ![0] ![1] inb_S1_S1_0) (Shape.Idx.first _) = w
  obtain rfl : w = word x0 := hw.symm.trans (one_word x0 _ _)
  rfl

set_option maxHeartbeats 2000000 in
/-- The last point: the codes, the product added to the accumulator, the activation of the scaled accumulator into the first result's window; the
    third result's word is left as found. -/
theorem run_C (c : Dev nD) (i : grid0.Coords) (arg1 : Memref sig .tc .smem S1 .f32) (harg1 : arg1.IsWhole) (arg2 : Memref sig .tc .vmem S64x512 .bf16) (harg2 : arg2.IsWhole) (arg3 : Memref sig .tc .vmem S512x5120 .fp8e4m3) (harg3 : arg3.IsWhole) (arg4 : Memref sig .tc .vmem S1x5120 .f32) (harg4 : arg4.IsWhole) (arg5 : Memref sig .tc .vmem S64x5120 .bf16) (harg5 : arg5.IsWhole) (arg6 : Memref sig .tc .vmem S64x512 .fp8e4m3) (harg6 : arg6.IsWhole) (arg7 : Memref sig .tc .smem S1 .f32) (harg7 : arg7.IsWhole) (arg8 : Memref sig .tc .vmem S64x5120 .f32) (harg8 : arg8.IsWhole) (hc0 : ¬cond0_0 i) (hc1 : cond0_1 i) (hc2 : cond0_2 i)
    (x0 : Vec F S1 .f32) (x1 : Vec F S64x512 .bf16) (x2 : Vec F S512x5120 .fp8e4m3) (x3 : Vec F S1x5120 .f32) (x6 : Vec F S1 .f32) (a : Vec F S64x5120 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare x6 ∗ owns (c : Thread nD τ) arg8 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (k0_pay3 (addf a (dotW (word x0) x1 x2)) (word x0) x3) ∗ owns (c : Thread nD τ) arg6 fullShare (codesW (word x0) x1) ∗ owns (c : Thread nD τ) arg7 fullShare x6 ∗ owns (c : Thread nD τ) arg8 fullShare (addf a (dotW (word x0) x1 x2))) -∗ K ⟨⟩))
      ⊢ wp frame (wpE (defs₀ (F := F)) Variants.none c none) E (cc0__body i arg1 harg1 arg2 harg2 arg3 harg3 arg4 harg4 arg5 harg5 arg6 harg6 arg7 harg7 arg8 harg8) K := by
  simp only [cc0__body_eq_skeleton]; unfold cc0__body_skel
  simp only [k0_part1_eq_skeleton, k0_part2_eq_skeleton, k0_part3_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4; obtain rfl := harg7.eq_unread hf7; obtain rfl := harg8.eq_unread hf8
  sl_exec (disch := first | sl_exact hc0 | sl_exact hc1 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; swap; · iexact H5
    ipureintro
    sl_unfold_words
    rw [View.read_writes_full]
    simp only [View.readAt_eq_ld, View.readCov_full, harg1.read_unread, harg2.read_unread, harg3.read_unread, harg4.read_unread,
      harg8.read_unread, View.ld_unit_zero (S := S64x512) hz2, View.ld_unit_zero (S := S512x5120) hz2,
      View.ld_unit_zero (S := S1x5120) hz2, View.ld_unit_zero (S := S64x5120) hz2]
    try simp only [pay1_eq, pay2_eq, View.readCov_unit_zero (S := S64x5120) _ hz2]
    generalize hw : View.ld x0 (Rect.unit (s := S1) ![0] ![1] inb_S1_S1_0) (Shape.Idx.first _) = w
    obtain rfl : w = word x0 := hw.symm.trans (one_word x0 _ _)
    rfl
  isplitl [H6]
  · iexists _; isplitr; swap; · iexact H6
    ipureintro
    sl_unfold_words
    rw [View.read_writes_full]
    simp only [View.readAt_eq_ld, View.readCov_full, harg1.read_unread, harg2.read_unread, harg3.read_unread, harg4.read_unread,
      harg8.read_unread, View.ld_unit_zero (S := S64x512) hz2, View.ld_unit_zero (S := S512x5120) hz2,
      View.ld_unit_zero (S := S1x5120) hz2, View.ld_unit_zero (S := S64x5120) hz2]
    try simp only [pay1_eq, pay2_eq, View.readCov_unit_zero (S := S64x5120) _ hz2]
    generalize hw : View.ld x0 (Rect.unit (s := S1) ![0] ![1] inb_S1_S1_0) (Shape.Idx.first _) = w
    obtain rfl : w = word x0 := hw.symm.trans (one_word x0 _ _)
    rfl
  isplitl [H7]
  · iexists _; isplitr; · ipureintro; exact harg7.read_unread _
    iexact H7
  iexists _; isplitr; swap; · iexact H8
  ipureintro
  sl_unfold_words
  rw [View.read_writes_full]
  simp only [View.readAt_eq_ld, View.readCov_full, harg1.read_unread, harg2.read_unread, harg3.read_unread, harg4.read_unread,
    harg8.read_unread, View.ld_unit_zero (S := S64x512) hz2, View.ld_unit_zero (S := S512x5120) hz2,
    View.ld_unit_zero (S := S1x5120) hz2, View.ld_unit_zero (S := S64x5120) hz2]
  try simp only [pay1_eq, pay2_eq, View.readCov_unit_zero (S := S64x5120) _ hz2]
  generalize hw : View.ld x0 (Rect.unit (s := S1) ![0] ![1] inb_S1_S1_0) (Shape.Idx.first _) = w
  obtain rfl : w = word x0 := hw.symm.trans (one_word x0 _ _)
  rfl

end Cert.KernelIdeal.Body

end
-- ==== Proof.Frame.lean ====
/-
  The kernel's pipeline: what every staging buffer and the accumulator hold point by point, the body's obligation,
  and the run of the whole program. Everything here holds for any reading of the float operations.

  The third result's word is stored at the first point only and written back after the last: its buffer keeps the
  word in between (`before6`), so that what is written back is the activation scale.
-/
module

public import proofs.«01_k».proof.Proof.Body
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents -/

/-- The first point. -/
abbrev t0 : Fin cfg0.N := ⟨0, lt_of_lt_of_eq (by omega : 0 < 27) (show 27 = cfg0.N from N_0.symm)⟩

theorem val_lt (t : Fin cfg0.N) : t.val < 27 := lt_of_lt_of_eq t.isLt (show cfg0.N = 27 from N_0)

/-- The blocks of the inputs at a point: the activation scale, -/
abbrev xs (c : Dev nD) (t : Fin cfg0.N) : Vec F S1 .f32 := iblk m c 0 t
/-- the activations, -/
abbrev xb (c : Dev nD) (t : Fin cfg0.N) : Vec F S64x512 .bf16 := iblk m c 1 t
/-- the weight codes, -/
abbrev wb (c : Dev nD) (t : Fin cfg0.N) : Vec F S512x5120 .fp8e4m3 := iblk m c 2 t
/-- the weight scales. -/
abbrev ws (c : Dev nD) (t : Fin cfg0.N) : Vec F S1x5120 .f32 := iblk m c 3 t

/-- The block's product at a point. -/
def dotAt (c : Dev nD) (t : Fin cfg0.N) : Vec F S64x5120 .f32 := dotW (word (xs m c t)) (xb m c t) (wb m c t)

/-- The accumulator after point `n`. -/
def accAt (c : Dev nD) : (n : ℕ) → n < cfg0.N → Vec F S64x5120 .f32
  | 0, h => dotAt m c ⟨0, h⟩
  | n + 1, h => addf (accAt c n (Nat.lt_of_succ_lt h)) (dotAt m c ⟨n + 1, h⟩)

theorem accAt_pos (c : Dev nD) (t : Fin cfg0.N) (h : t.val ≠ 0) :
    accAt m c t.val t.isLt = addf (accAt m c (t.val - 1) (Nat.lt_of_le_of_lt (Nat.sub_le _ _) t.isLt)) (dotAt m c t) := by
  obtain ⟨n, hn⟩ := t
  cases n with
  | zero => exact absurd rfl h
  | succ n => rfl

theorem accAt_zero (c : Dev nD) (t : Fin cfg0.N) (h : t.val = 0) : accAt m c t.val t.isLt = dotAt m c t := by
  obtain ⟨n, hn⟩ := t
  cases n with
  | zero => rfl
  | succ n => exact absurd h (Nat.succ_ne_zero n)

/-- The codes stored at a point. -/
def codesAt (c : Dev nD) (t : Fin cfg0.N) : Vec F S64x512 .fp8e4m3 := codesW (word (xs m c t)) (xb m c t)

/-- The activation of the accumulator at a point (stored at the last one only). -/
def actAt (c : Dev nD) (t : Fin cfg0.N) : Vec F S64x5120 .bf16 := k0_pay3 (accAt m c t.val t.isLt) (word (xs m c t)) (ws m c t)

/-! ## The staging buffers and the accumulator -/

abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x5120 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x5120 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x512 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S1 .f32 := win0_6.stage (cfg0.slots t 6)
abbrev hs0_6 (t : Fin cfg0.N) : (ms0_6 t).IsWhole := hstage0_6 ((cfg0.slots t 6).cast nbuf0_6)
abbrev scM : Memref sig .tc .vmem S64x5120 .f32 := Memref.whole cc0_scratch0

theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- What holds before point `n`: before the first, the accumulator at anything; then at what the point before left. -/
def PhiS (c : Dev nD) : (n : ℕ) → n ≤ cfg0.N → sProp 𝕄
  | 0, _ => Pipeline.ΦA spec0 c
  | n + 1, hn => iprop(owns (c : Thread nD τ) scM fullShare (accAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (accAt m c n hn) ∗ (∃ r, prngReg c r)) := rfl

theorem PhiS_pos (c : Dev nD) (n : ℕ) (h : n ≤ cfg0.N) (hz : n ≠ 0) :
    PhiS m c n h = iprop(owns (c : Thread nD τ) scM fullShare (accAt m c (n - 1) (by omega)) ∗ (∃ r, prngReg c r)) := by
  cases n with
  | zero => exact absurd rfl hz
  | succ n => rfl

/-! ## The pipeline's proof data -/

/-- The arrays as the region finds them; each input's buffer at its block, the codes at each point, the activation
    of the accumulator, and the scale's word as stored at the first point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => actAt m c t
    | ⟨5, _⟩ => codesAt m c t
    | ⟨6, _⟩ => xs m c t0
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = actAt m c t := by dsimp only [dats]
theorem after0_5 (c : Dev nD) (t : Fin cfg0.N) : (dats m 0 c).after 5 t = codesAt m c t := by dsimp only [dats]
theorem after0_6 (c : Dev nD) (t : Fin cfg0.N) : (dats m 0 c).after 6 t = xs m c t0 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Whatever the third result's buffer held at the start, the first point leaves the scale's word in it. -/
theorem kept6 (c : Dev nD) (t : Fin cfg0.N) (d) : (dats m 0 c).kept 6 t d = xs m c t0 := by
  unfold Dat.kept
  rw [Pipeline.fill_of_clip_none (cfg := cfg0) 6 (cfg0.grid.coords t) (fun _ => rfl) d ((dats m 0 c).after 6 t), Window.fill_cut, after0_6]

/-- From the second point on, the third result's buffer holds the scale's word when the body runs. -/
theorem before6 (c : Dev nD) (d) : ∀ (n : ℕ) (h : n + 1 < cfg0.N), (dats m 0 c).before 6 ⟨n + 1, h⟩ d = xs m c t0 := by
  intro n
  induction n with
  | zero =>
    intro h
    rw [(dats m 0 c).before_of_pos 6 ⟨0 + 1, h⟩ (Nat.succ_ne_zero _) (fetch6 _) d, flush6, if_neg (by simp)]
    unfold Dat.left
    rw [idle6]
    exact kept6 m c _ d
  | succ n ih =>
    intro h
    have hN := val_lt ⟨n + 1 + 1, h⟩
    rw [(dats m 0 c).before_of_pos 6 ⟨n + 1 + 1, h⟩ (Nat.succ_ne_zero _) (fetch6 _) d, flush6, if_neg (by simp; simp at hN; omega)]
    unfold Dat.left
    rw [idle6]
    exact ih _

theorem before0_6 (c : Dev nD) (t : Fin cfg0.N) (ht : t.val ≠ 0) (d) : (dats m 0 c).before 6 t d = xs m c t0 := by
  obtain ⟨n, hn⟩ := t
  cases n with
  | zero => exact absurd rfl ht
  | succ n => exact before6 m c d n hn

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- At a point where a window is not idle, the body leaves its named contents there. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The same where the window is idle and written back. -/
theorem leaves_flush (c : Dev nD) (w : Fin cfg0.W) (t : Fin cfg0.N) (h : cfg0.idle w (cfg0.grid.coords t) = true)
    (hf : (cfg0.win w).flush t = true) :
    (dats m 0 c).leavesExact w t = owns (c : Thread nD τ) ((cfg0.win w).stage (cfg0.slots t w)) fullShare ((dats m 0 c).after w t) := by
  unfold Dat.leavesExact; rw [h, hf]

set_option maxHeartbeats 2000000 in
/-- The obligation at the first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  have h2 : t.val ≠ 26 := by omega
  obtain rfl : t = t0 := Fin.ext h0
  unfold bodyPre bodyPost bodyAt0
  simp only [before0_0, before0_1, before0_2, before0_3]
  rw [show (dats m 0 c).owesAt () t0.succ = (dats m 0 c).owesAt () t0.castSucc from rfl]
  rw [show (dats m 0 c).Φ t0.succ = PhiS m c (t0.val + 1) t0.isLt from rfl, PhiS_succ]
  rw [leaves_live m c 0 t0 rfl, leaves_live m c 1 t0 rfl, leaves_live m c 2 t0 rfl, leaves_live m c 3 t0 rfl, leaves_live m c 5 t0 rfl]
  rw [Dat.leavesExact_idle (dats m 0 c) 4 t0 (by rw [idle4]; simp [h2]) (by rw [flush4]; simp [h2])]
  rw [leaves_live m c 6 t0 (by rw [idle6]; simp)]
  rw [after0_0, after0_1, after0_2, after0_3, after0_5, after0_6]
  rw [PhiS_castSucc m c t0, PhiS_zero m c _ _ h0, PhiA0_eq, accAt_zero m c t0 h0]
  unfold dotAt codesAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (run_A c (grid0.coords t0) _ _ _ _ _ _ _ _ _ _ _ _ _ _ _ _ ((hcond0_0 t0).mpr h0) (fun h => (hcond0_1 t0).mp h h0) (fun h => h2 ((hcond0_2 t0).mp h)) (xs m c t0) (xb m c t0) (wb m c t0) (ws m c t0) _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  iexact H6

set_option maxHeartbeats 2000000 in
/-- The obligation between. -/
theorem sound_B (c : Dev nD) (t : Fin cfg0.N) (h0 : t.val ≠ 0) (h2 : t.val ≠ 26) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_6 m c t h0]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 5 t rfl]
  rw [Dat.leavesExact_idle (dats m 0 c) 4 t (by rw [idle4]; simp [h2]) (by rw [flush4]; simp [h2])]
  rw [Dat.leavesExact_idle (dats m 0 c) 6 t (by rw [idle6]; simp [h0]) (by rw [flush6]; simp [h2])]
  simp only [before0_6 m c t h0]
  rw [after0_0, after0_1, after0_2, after0_3, after0_5]
  rw [PhiS_castSucc m c t, PhiS_pos m c _ _ h0, accAt_pos m c t h0]
  unfold dotAt codesAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (run_B c (grid0.coords t) _ _ _ _ _ _ _ _ _ _ _ _ _ _ _ _ (fun h => h0 ((hcond0_0 t).mp h)) ((hcond0_1 t).mpr h0) (fun h => h2 ((hcond0_2 t).mp h)) (xs m c t) (xb m c t) (wb m c t) (ws m c t) _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexists _; iexact H4
  isplitl [H5]; · iexact H5
  iexists d6; iexact H6

set_option maxHeartbeats 2000000 in
/-- The obligation at the last point. -/
theorem sound_C (c : Dev nD) (t : Fin cfg0.N) (h2 : t.val = 26) :
    bodyPre m c t ⊢ wp frame (wpE (defs₀ (F := F)) Variants.none c none) Set.univ (bodyAt0 t) (fun _ => bodyPost m c t) := by
  have h0 : t.val ≠ 0 := by omega
  unfold bodyPre bodyPost bodyAt0
  simp only [before0_0, before0_1, before0_2, before0_3, before0_6 m c t h0]
  rw [show (dats m 0 c).owesAt () t.succ = (dats m 0 c).owesAt () t.castSucc from rfl]
  rw [show (dats m 0 c).Φ t.succ = PhiS m c (t.val + 1) t.isLt from rfl, PhiS_succ]
  rw [leaves_live m c 0 t rfl, leaves_live m c 1 t rfl, leaves_live m c 2 t rfl, leaves_live m c 3 t rfl, leaves_live m c 5 t rfl]
  rw [leaves_live m c 4 t (by rw [idle4]; simp [h2])]
  rw [leaves_flush m c 6 t (by rw [idle6]; simp [h0]) (by rw [flush6]; simp [h2])]
  rw [after0_0, after0_1, after0_2, after0_3, after0_5, after0_4, after0_6]
  rw [PhiS_castSucc m c t, PhiS_pos m c _ _ h0, accAt_pos m c t h0]
  unfold actAt
  rw [accAt_pos m c t h0]
  unfold dotAt codesAt
  iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
  iapply (run_C c (grid0.coords t) _ _ _ _ _ _ _ _ _ _ _ _ _ _ _ _ (fun h => h0 ((hcond0_0 t).mp h)) ((hcond0_1 t).mpr h0) ((hcond0_2 t).mpr h2) (xs m c t) (xb m c t) (wb m c t) (ws m c t) _ _ Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexact H6
  isplitl [HS0]; · iexact HS0
  iintro ⟨H0, H1, H2, H3, H4, H5, H6, HS0⟩
  isplitl [HS0 Hg]
  · isplitl [HS0]; · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The obligation at every point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h2 : t.val = 26
    · exact sound_C m c t h2
    · exact sound_B m c t h0 h2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 27 := N_0; omega), PhiA0_eq]
  iintro ⟨HS0, Hg⟩
  isplitl [HS0]
  · iexists _; iexact HS0
  iexact Hg

/-! ## The run -/

set_option backward.isDefEq.respectTransparency.types false in
/-- Every fair run of the program ends, every array at what the library computes from the proof data, the host lines'
    results computed from those, every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (Q' := _) (hQ' := fun _ h => h)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end as they were. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame claim, for any reading of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Body

end
-- ==== Proof.Arrays.lean ====
/-
  What the kernel's blocks are of the arguments, and what its three results hold after the run, for any reading of
  the float operations: a block of the activations is 512 columns of them, the codes are stored block by block, the
  activation once, after the last block, and the scale's word is the scale.
-/
module

public import proofs.«01_k».proof.Proof.Frame
public import Idealize.ShloMosaic.Lib.Pipeline.Value
public import Idealize.ShloMosaic.Lib.ValueIdxCore
public import Idealize.ShloMosaic.Lib.ValueLayout
public import Idealize.ShloMosaic.Lib.StableHlo.Run

@[expose] public section

set_option maxRecDepth 16384

noncomputable section

namespace Cert.KernelIdeal.Arrays

open Cert.KernelIdeal Cert.KernelIdeal.Gen Cert.KernelIdeal.Body
open Idealize.ShloMosaic Idealize.ShloMosaic.TcCoe Idealize.ShloMosaic.Tactic Idealize.ShloMosaic.ValueIdx
open Idealize.SL.Sem
open Idealize.ShloMosaic.Pipeline (Dat Cfg Window)

variable {F : FTy → Type} [FloatOps F]
variable (m : (ℓ : Loc nD τ sig) → Buf (Elt F) ℓ) (ρ : Dev nD → PrngReg)

/-- The arguments on a core: the activations, -/
abbrev X (c : Dev nD) : Vec F S64x1x13824 .bf16 := m ((c : Thread nD τ).loc main_arg0)
/-- their scale, -/
abbrev S (c : Dev nD) : Vec F S1 .f32 := m ((c : Thread nD τ).loc main_arg1)
/-- the weight codes, -/
abbrev W (c : Dev nD) : Vec F S13824x5120 .fp8e4m3 := m ((c : Thread nD τ).loc main_arg2)
/-- their scales. -/
abbrev WS (c : Dev nD) : Vec F S5120 .f32 := m ((c : Thread nD τ).loc main_arg3)

/-! ## The host's reshapes before the region -/

theorem V_v0 (c : Dev nD) : (V m c main_v0 : Vec F S64x13824 .bf16) = shapeCast S64x13824 (X m c) shapeCasts_S64x1x13824_S64x13824 := by
  show StableHlo.after _ _ (Proc.devRef .tc _) = _
  simp only [hostOps0, List.flatten_cons, List.flatten_nil, List.append_nil, List.cons_append, List.nil_append]
  after_results
  rfl

theorem V_v1 (c : Dev nD) : (V m c main_v1 : Vec F S1x5120 .f32) = shapeCast S1x5120 (WS m c) shapeCasts_S5120_S1x5120 := by
  show StableHlo.after _ _ (Proc.devRef .tc _) = _
  simp only [hostOps0, List.flatten_cons, List.flatten_nil, List.append_nil, List.cons_append, List.nil_append]
  after_results
  rfl

theorem V_v0_apply (c : Dev nD) (r : Fin 64) (k : Fin 13824) : (V m c main_v0 : Vec F S64x13824 .bf16) (ix2 r k) = X m c (ix3 r 0 k) := by
  rw [V_v0]
  exact shapeCast_apply _ _ _ _ (by rw [Shape.rowMajor_val_three, Shape.rowMajor_val_two]; simp)

theorem V_v1_apply (c : Dev nD) (n : Fin 5120) : (V m c main_v1 : Vec F S1x5120 .f32) (ix2 0 n) = WS m c (ix1 n) := by
  rw [V_v1]
  exact shapeCast_a_1a_apply _ _ _ _

/-! ## The windows' block indices -/

theorem idx0 : ∀ t : Fin cfg0.N, win0_0.index t (0 : Fin 1) = 0 := (by decide +kernel : ∀ t : Fin grid0.N, _)
theorem idx1 : ∀ t : Fin cfg0.N, win0_1.index t (0 : Fin 2) = 0 ∧ win0_1.index t (1 : Fin 2) = t.val := (by decide +kernel : ∀ t : Fin grid0.N, _)
theorem idx2 : ∀ t : Fin cfg0.N, win0_2.index t (0 : Fin 2) = t.val ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = t.val := (by decide +kernel : ∀ t : Fin grid0.N, _)
theorem idx6 : ∀ t : Fin cfg0.N, win0_6.index t (0 : Fin 1) = 0 := (by decide +kernel : ∀ t : Fin grid0.N, _)

/-- Column `k` of block `t`. -/
abbrev col (t : Fin cfg0.N) (k : Fin 512) : Fin 13824 := ⟨512 * t.val + k.val, by have := val_lt t; have := k.isLt; omega⟩

/-! ## The inputs' blocks -/

theorem emb0 (t : Fin cfg0.N) (j : S1.Idx) : ((cfg0.win 0).blk t).view.emb j = j := by
  have e0 := idx0 t
  funext a; apply Fin.ext
  match a with
  | ⟨0, _⟩ => show win0_0.index t (0 : Fin 1) * 1 + 1 * (j 0).val = (j 0).val; omega

theorem xs_eq (c : Dev nD) (t : Fin cfg0.N) : xs m c t = S m c := by
  funext j
  show V m c main_arg1 (((cfg0.win 0).blk t).view.emb j) = _
  rw [emb0, V_main_arg1]

theorem emb1 (t : Fin cfg0.N) (r : Fin 64) (k : Fin 512) : (((cfg0.win 1).blk t).view.emb (ix2 r k : S64x512.Idx) : S64x13824.Idx) = ix2 r (col t k) := by
  obtain ⟨e0, e1⟩ := idx1 t
  funext a; apply Fin.ext
  match a with
  | ⟨0, _⟩ => show win0_1.index t (0 : Fin 2) * 64 + 1 * r.val = r.val; omega
  | ⟨1, _⟩ => show win0_1.index t (1 : Fin 2) * 512 + 1 * k.val = 512 * t.val + k.val; omega

theorem xb_apply (c : Dev nD) (t : Fin cfg0.N) (r : Fin 64) (k : Fin 512) : xb m c t (ix2 r k) = X m c (ix3 r 0 (col t k)) := by
  show V m c main_v0 (((cfg0.win 1).blk t).view.emb (ix2 r k : S64x512.Idx)) = _
  rw [emb1, V_v0_apply]

theorem emb2 (t : Fin cfg0.N) (k : Fin 512) (n : Fin 5120) : (((cfg0.win 2).blk t).view.emb (ix2 k n : S512x5120.Idx) : S13824x5120.Idx) = ix2 (col t k) n := by
  obtain ⟨e0, e1⟩ := idx2 t
  funext a; apply Fin.ext
  match a with
  | ⟨0, _⟩ => show win0_2.index t (0 : Fin 2) * 512 + 1 * k.val = 512 * t.val + k.val; omega
  | ⟨1, _⟩ => show win0_2.index t (1 : Fin 2) * 5120 + 1 * n.val = n.val; omega

theorem wb_apply (c : Dev nD) (t : Fin cfg0.N) (k : Fin 512) (n : Fin 5120) : wb m c t (ix2 k n) = W m c (ix2 (col t k) n) := by
  show V m c main_arg2 (((cfg0.win 2).blk t).view.emb (ix2 k n : S512x5120.Idx)) = _
  rw [emb2, V_main_arg2]

theorem emb3 (t : Fin cfg0.N) (j : S1x5120.Idx) : ((cfg0.win 3).blk t).view.emb j = j := by
  obtain ⟨e0, e1⟩ := idx3 t
  funext a; apply Fin.ext
  match a with
  | ⟨0, _⟩ => show win0_3.index t (0 : Fin 2) * 1 + 1 * (j 0).val = (j 0).val; omega
  | ⟨1, _⟩ => show win0_3.index t (1 : Fin 2) * 5120 + 1 * (j 1).val = (j 1).val; omega

theorem ws_apply (c : Dev nD) (t : Fin cfg0.N) (n : Fin 5120) : ws m c t (ix2 0 n) = WS m c (ix1 n) := by
  show V m c main_v1 (((cfg0.win 3).blk t).view.emb (ix2 0 n : S1x5120.Idx)) = _
  rw [emb3, V_v1_apply]

/-! ## The results' arrays after the region -/

/-- The last point. -/
abbrev t26 : Fin cfg0.N := ⟨26, lt_of_lt_of_eq (by omega : 26 < 27) (show 27 = cfg0.N from N_0.symm)⟩

theorem emb4 (t : Fin cfg0.N) (j : S64x5120.Idx) : ((cfg0.win 4).blk t).view.emb j = j := by
  obtain ⟨e0, e1⟩ := idx4 t
  funext a; apply Fin.ext
  match a with
  | ⟨0, _⟩ => show win0_4.index t (0 : Fin 2) * 64 + 1 * (j 0).val = (j 0).val; omega
  | ⟨1, _⟩ => show win0_4.index t (1 : Fin 2) * 5120 + 1 * (j 1).val = (j 1).val; omega

theorem last_of_flush4 (t : Fin cfg0.N) (hf : (cfg0.win 4).flush t = true) : t = t26 :=
  Fin.ext (by have := (flush0_4 t).mp hf; have := val_lt t; show t.val = 26; omega)

theorem flushed4_eq (c : Dev nD) (t : Fin cfg0.N) (hf : (cfg0.win 4).flush t = true) :
    (dats m 0 c).flushed 4 t = ((cfg0.win 4).blk t).view.read (Elt F) (actAt m c t26) := by
  obtain rfl := last_of_flush4 t hf
  show (cfg0.win 4).cut (grid0.coords t26) ((dats m 0 c).after 4 t26) = _
  rw [after0_4]
  funext j
  show actAt m c t26 j = actAt m c t26 (((cfg0.win 4).blk t26).view.emb j)
  rw [emb4]

/-- The first result's array: the activation of the accumulator after the last block. -/
theorem final4 (c : Dev nD) : (dats m 0 c).arrAt 4 cfg0.N = actAt m c t26 :=
  (dats m 0 c).arrAt_eq_of_cover 4 (actAt m c t26) (flushed4_eq m c) fun i =>
    ⟨t26, (flush0_4 t26).mpr rfl, by have h := ((cfg0.win 4).blk t26).view.emb_mem_set i; rwa [emb4] at h⟩

theorem emb5 (t : Fin cfg0.N) (r : Fin 64) (k : Fin 512) : (((cfg0.win 5).blk t).view.emb (ix2 r k : S64x512.Idx) : S64x13824.Idx) = ix2 r (col t k) := by
  obtain ⟨e0, e1⟩ := idx5 t
  funext a; apply Fin.ext
  match a with
  | ⟨0, _⟩ => show win0_5.index t (0 : Fin 2) * 64 + 1 * r.val = r.val; omega
  | ⟨1, _⟩ => show win0_5.index t (1 : Fin 2) * 512 + 1 * k.val = 512 * t.val + k.val; omega

/-- The block a column is in. -/
abbrev pt (k : Fin 13824) : Fin cfg0.N := ⟨k.val / 512, lt_of_lt_of_eq (by have := k.isLt; omega : k.val / 512 < 27) (show 27 = cfg0.N from N_0.symm)⟩
/-- Its place in the block. -/
abbrev off (k : Fin 13824) : Fin 512 := ⟨k.val % 512, Nat.mod_lt _ (by omega)⟩

theorem col_pt (k : Fin 13824) : col (pt k) (off k) = k := Fin.ext (by show 512 * (k.val / 512) + k.val % 512 = k.val; omega)
theorem pt_col (t : Fin cfg0.N) (k : Fin 512) : pt (col t k) = t := Fin.ext (by show (512 * t.val + k.val) / 512 = t.val; have := k.isLt; omega)
theorem off_col (t : Fin cfg0.N) (k : Fin 512) : off (col t k) = k := Fin.ext (by show (512 * t.val + k.val) % 512 = k.val; have := k.isLt; omega)

/-- All the codes, each from its block. -/
def codesAll (c : Dev nD) : Vec F S64x13824 .fp8e4m3 := fun i => codesAt m c (pt (i 1)) (ix2 (i 0) (off (i 1)))

theorem codesAll_col (c : Dev nD) (t : Fin cfg0.N) (r : Fin 64) (k : Fin 512) : codesAll m c (ix2 r (col t k)) = codesAt m c t (ix2 r k) := by
  show codesAt m c (pt (col t k)) (ix2 r (off (col t k))) = _
  rw [pt_col, off_col]

theorem flushed5_eq (c : Dev nD) (t : Fin cfg0.N) :
    (dats m 0 c).flushed 5 t = ((cfg0.win 5).blk t).view.read (Elt F) (codesAll m c) := by
  show (cfg0.win 5).cut (grid0.coords t) ((dats m 0 c).after 5 t) = _
  rw [after0_5]
  funext j
  obtain ⟨r, k, rfl⟩ : ∃ (r : Fin 64) (k : Fin 512), j = (ix2 r k : S64x512.Idx) := ⟨j 0, j 1, eq_ix2 j⟩
  show codesAt m c t (ix2 r k) = codesAll m c (((cfg0.win 5).blk t).view.emb (ix2 r k : S64x512.Idx))
  rw [emb5, codesAll_col]

/-- The second result's array: all the codes. -/
theorem final5 (c : Dev nD) : (dats m 0 c).arrAt 5 cfg0.N = codesAll m c :=
  (dats m 0 c).arrAt_eq_of_cover 5 (codesAll m c) (fun t _ => flushed5_eq m c t) fun i => by
    obtain ⟨r, k, rfl⟩ : ∃ (r : Fin 64) (k : Fin 13824), i = (ix2 r k : S64x13824.Idx) := ⟨i 0, i 1, eq_ix2 i⟩
    refine ⟨pt k, flush0_5 _, ?_⟩
    have h := ((cfg0.win 5).blk (pt k)).view.emb_mem_set (ix2 r (off k) : S64x512.Idx)
    rwa [emb5, col_pt] at h

theorem emb6 (t : Fin cfg0.N) (j : S1.Idx) : ((cfg0.win 6).blk t).view.emb j = j := by
  have e0 := idx6 t
  funext a; apply Fin.ext
  match a with
  | ⟨0, _⟩ => show win0_6.index t (0 : Fin 1) * 1 + 1 * (j 0).val = (j 0).val; omega

theorem flushed6_eq (c : Dev nD) (t : Fin cfg0.N) :
    (dats m 0 c).flushed 6 t = ((cfg0.win 6).blk t).view.read (Elt F) (S m c) := by
  show (cfg0.win 6).cut (grid0.coords t) ((dats m 0 c).after 6 t) = _
  rw [after0_6, xs_eq]
  funext j
  show S m c j = S m c (((cfg0.win 6).blk t).view.emb j)
  rw [emb6]

/-- The third result's array: the activations' scale. -/
theorem final6 (c : Dev nD) : (dats m 0 c).arrAt 6 cfg0.N = S m c :=
  (dats m 0 c).arrAt_eq_of_cover 6 (S m c) (fun t _ => flushed6_eq m c t) fun i =>
    ⟨t26, (flush0_6 t26).mpr rfl, by have h := ((cfg0.win 6).blk t26).view.emb_mem_set i; rwa [emb6] at h⟩

/-! ## The run -/

theorem arr_inj : Function.Injective (Pipeline.arrRef spec0) := by
  unfold Function.Injective; exact (by decide)

theorem W_v3 (c : Dev nD) : (Pipeline.afterTail₀ cfgs (dats m) 0 (V0 m) [hostOps1] c main_v3 : Vec F S64x1x5120 .bf16)
    = shapeCast S64x1x5120 (actAt m c t26) shapeCasts_S64x5120_S64x1x5120 := by
  have e := Pipeline.withArrays_arr spec0 arr_inj c (V0 m c) (fun w => (dats m 0 c).arrAt w cfg0.N) 4
  unfold Pipeline.afterTail₀
  simp only [hostOps1, List.flatten_cons, List.flatten_nil, List.append_nil]
  after_results
  rw [final4] at e
  exact congrArg (fun v : Vec F S64x5120 .bf16 => shapeCast S64x1x5120 v shapeCasts_S64x5120_S64x1x5120) e

theorem W_v4 (c : Dev nD) : (Pipeline.afterTail₀ cfgs (dats m) 0 (V0 m) [hostOps1] c main_v4 : Vec F S64x1x13824 .fp8e4m3)
    = shapeCast S64x1x13824 (codesAll m c) shapeCasts_S64x13824_S64x1x13824 := by
  have e := Pipeline.withArrays_arr spec0 arr_inj c (V0 m c) (fun w => (dats m 0 c).arrAt w cfg0.N) 5
  unfold Pipeline.afterTail₀
  simp only [hostOps1, List.flatten_cons, List.flatten_nil, List.append_nil]
  after_results
  rw [final5] at e
  exact congrArg (fun v : Vec F S64x13824 .fp8e4m3 => shapeCast S64x1x13824 v shapeCasts_S64x13824_S64x1x13824) e

/-- The first result. -/
abbrev res0 (c : Dev nD) : Vec F S64x1x5120 .bf16 := shapeCast S64x1x5120 (actAt m c t26) shapeCasts_S64x5120_S64x1x5120
/-- The second result. -/
abbrev res1 (c : Dev nD) : Vec F S64x1x13824 .fp8e4m3 := shapeCast S64x1x13824 (codesAll m c) shapeCasts_S64x13824_S64x1x13824

/-- THE RUN, READ: the three results, the arguments unchanged. -/
theorem run : θ_run defs (onTc (τ := τ) (main (F := F))) ⟨m, fun _ => 0, ρ⟩ (fun r => ∀ c : Dev nD,
      r.2.mem ((c : Thread nD τ).loc main_v3) = res0 m c
      ∧ r.2.mem ((c : Thread nD τ).loc main_v4) = res1 m c
      ∧ r.2.mem ((c : Thread nD τ).loc main_v2_2) = S m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨((h.1 c).2 main_v3 (Pipeline.mem_restRefs_of main_v3 (by decide) (by decide))).trans (W_v3 m c),
      ((h.1 c).2 main_v4 (Pipeline.mem_restRefs_of main_v4 (by decide) (by decide))).trans (W_v4 m c),
      ((h.1 c).1 6).trans (final6 m c), h.2 c⟩)
    (θ_run_and (run_main m ρ) (unchanged m ρ))

end Cert.KernelIdeal.Arrays

end
-- ==== Proof.Scale.lean ====
/-
  The inverse of a normal scale, as the kernel computes it and as the reference states it.

  The kernel doubles and halves: seven steps bring the scale below 2, seven steps bring it to 1 or above, and a
  factor that starts at 1 takes the same powers of two. Each step keeps the scale at `x * 2^k` and the factor at
  `2^k` (`Stage`); at the end `1 ≤ x * 2^k < 2`. The reference says `2^(-floor(log x / log 2))`, which is the
  same power of two.
-/
module

public import Idealize.ShloMosaic.PureOps.Ideal

@[expose] public section

noncomputable section

namespace Cert.Scale

open Idealize.ShloMosaic

/-! ## Constants -/

/-- The bits of a single-precision power of two. -/
theorem ofBits_pow2 (b : BitVec 32) (n : ℤ) (hs : b.extractLsb' 31 1 = 0#1) (hf : (b.extractLsb' 0 23).toNat = 0)
    (he : ((b.extractLsb' 23 8).toNat : ℤ) = n + 127) (h0 : -126 ≤ n) (h1 : n ≤ 127) :
    Ideal.ofBits .f32 b = (((2 : ℝ) ^ n : ℝ) : EReal) := by
  have e0 : (b.extractLsb' 23 8).toNat ≠ 0 := by omega
  have e1 : (b.extractLsb' 23 8).toNat ≠ 255 := by omega
  simp only [Ideal.ofBits, Ideal.ieee]
  rw [hs, if_neg (by simpa using e1), if_neg (by simpa using e0)]
  rw [hf, he]
  norm_num
  norm_cast
  rw [show (8388608 : ℝ) = 2 ^ (23 : ℤ) by norm_num, ← zpow_add₀ (by norm_num : (2 : ℝ) ≠ 0)]
  congr 1
  omega

/-! ## The steps -/

variable {S : Shape}

/-- One step of the way down: where the scale is at least `C`, times `D`. -/
abbrev upR (C D : EReal) (r : FVec Ideal S .f32) : FVec Ideal S .f32 :=
  select (cmpf .oge r (broadcast S C)) (mulf r (broadcast S D)) r
/-- The factor's part of it. -/
abbrev upV (C D : EReal) (r v : FVec Ideal S .f32) : FVec Ideal S .f32 :=
  select (cmpf .oge r (broadcast S C)) (mulf v (broadcast S D)) v
/-- One step of the way up: where the scale is below `C`, times `D`. -/
abbrev downR (C D : EReal) (r : FVec Ideal S .f32) : FVec Ideal S .f32 :=
  select (cmpf .olt r (broadcast S C)) (mulf r (broadcast S D)) r
/-- The factor's part of it. -/
abbrev downV (C D : EReal) (r v : FVec Ideal S .f32) : FVec Ideal S .f32 :=
  select (cmpf .olt r (broadcast S C)) (mulf v (broadcast S D)) v

/-- The scale stands at `x * 2^k` in `[2^lo, 2^hi)`, the factor at `2^k`. -/
def Stage (x : ℝ) (lo hi : ℤ) (r v : FVec Ideal S .f32) : Prop :=
  ∃ k : ℤ, (∀ j, r j = ((x * 2 ^ k : ℝ) : EReal)) ∧ (∀ j, v j = (((2 : ℝ) ^ k : ℝ) : EReal))
    ∧ (2 : ℝ) ^ lo ≤ x * 2 ^ k ∧ x * 2 ^ k < (2 : ℝ) ^ hi

/-- A step down from below `2^(a+b)` to below `2^max(a, b)`, keeping the lower bound at or under 1. -/
theorem Stage.up {x : ℝ} {lo : ℤ} {r v : FVec Ideal S .f32} (b : ℤ) (C D : EReal)
    (hC : C = (((2 : ℝ) ^ b : ℝ) : EReal)) (hD : D = (((2 : ℝ) ^ (-b) : ℝ) : EReal))
    (h : Stage x lo (b + b) r v) (hlo : lo ≤ 0) : Stage x lo b (upR C D r) (upV C D r v) := by
  obtain ⟨k, hr, hv, h0, h1⟩ := h
  have two : (0 : ℝ) < 2 := by norm_num
  have e : ∀ j, cmpf .oge r (broadcast S C) j = BitVec.ofBool (decide ((2 : ℝ) ^ b ≤ x * 2 ^ k)) := fun j => by
    show BitVec.ofBool (decide (C ≤ r j)) = _
    rw [hr j, hC]; simp only [EReal.coe_le_coe_iff]
  by_cases hb : (2 : ℝ) ^ b ≤ x * 2 ^ k
  · refine ⟨k - b, fun j => ?_, fun j => ?_, ?_, ?_⟩
    · show (if cmpf .oge r (broadcast S C) j = 1#1 then r j * D else r j) = _
      rw [e j, decide_eq_true hb, if_pos (by decide), hr j, hD, ← EReal.coe_mul, sub_eq_add_neg, zpow_add₀ two.ne', mul_assoc]
    · show (if cmpf .oge r (broadcast S C) j = 1#1 then v j * D else v j) = _
      rw [e j, decide_eq_true hb, if_pos (by decide), hv j, hD, ← EReal.coe_mul, sub_eq_add_neg, zpow_add₀ two.ne']
    · rw [zpow_sub₀ two.ne', ← mul_div_assoc, le_div_iff₀ (zpow_pos two b), ← zpow_add₀ two.ne']
      exact le_trans (zpow_le_zpow_right₀ (by norm_num) (by omega)) hb
    · rw [zpow_sub₀ two.ne', ← mul_div_assoc, div_lt_iff₀ (zpow_pos two b), ← zpow_add₀ two.ne']
      exact h1
  · refine ⟨k, fun j => ?_, fun j => ?_, h0, not_le.mp hb⟩
    · show (if cmpf .oge r (broadcast S C) j = 1#1 then r j * D else r j) = _
      rw [e j, decide_eq_false hb, if_neg (by decide), hr j]
    · show (if cmpf .oge r (broadcast S C) j = 1#1 then v j * D else v j) = _
      rw [e j, decide_eq_false hb, if_neg (by decide), hv j]

/-- A step up from at least `2^(1-2b)` to at least `2^(1-b)`, keeping the scale below 2. -/
theorem Stage.down {x : ℝ} {r v : FVec Ideal S .f32} (b : ℤ) (C D : EReal)
    (hC : C = (((2 : ℝ) ^ (1 - b) : ℝ) : EReal)) (hD : D = (((2 : ℝ) ^ b : ℝ) : EReal))
    (h : Stage x (1 - b - b) 1 r v) (hb0 : 0 ≤ b) : Stage x (1 - b) 1 (downR C D r) (downV C D r v) := by
  obtain ⟨k, hr, hv, h0, h1⟩ := h
  have two : (0 : ℝ) < 2 := by norm_num
  have e : ∀ j, cmpf .olt r (broadcast S C) j = BitVec.ofBool (decide (x * 2 ^ k < (2 : ℝ) ^ (1 - b))) := fun j => by
    show BitVec.ofBool (decide (r j < C)) = _
    rw [hr j, hC]; simp only [EReal.coe_lt_coe_iff]
  by_cases hb : x * 2 ^ k < (2 : ℝ) ^ (1 - b)
  · refine ⟨k + b, fun j => ?_, fun j => ?_, ?_, ?_⟩
    · show (if cmpf .olt r (broadcast S C) j = 1#1 then r j * D else r j) = _
      rw [e j, decide_eq_true hb, if_pos (by decide), hr j, hD, ← EReal.coe_mul, zpow_add₀ two.ne', mul_assoc]
    · show (if cmpf .olt r (broadcast S C) j = 1#1 then v j * D else v j) = _
      rw [e j, decide_eq_true hb, if_pos (by decide), hv j, hD, ← EReal.coe_mul, zpow_add₀ two.ne']
    · rw [zpow_add₀ two.ne', ← mul_assoc, ← div_le_iff₀ (zpow_pos two b), ← zpow_sub₀ two.ne']
      exact h0
    · rw [zpow_add₀ two.ne', ← mul_assoc, ← lt_div_iff₀ (zpow_pos two b), ← zpow_sub₀ two.ne']
      exact hb
  · refine ⟨k, fun j => ?_, fun j => ?_, not_lt.mp hb, h1⟩
    · show (if cmpf .olt r (broadcast S C) j = 1#1 then r j * D else r j) = _
      rw [e j, decide_eq_false hb, if_neg (by decide), hr j]
    · show (if cmpf .olt r (broadcast S C) j = 1#1 then v j * D else v j) = _
      rw [e j, decide_eq_false hb, if_neg (by decide), hv j]

/-- The reference's inverse of a positive scale. -/
def inv (s : EReal) : EReal :=
  Ideal.exp2 (0 - Ideal.liftRound Int.floor (Ideal.div (Ideal.log s) (Ideal.log ((2 : ℝ) : EReal))))

/-- At the end of the steps the factor is the reference's inverse. -/
theorem Stage.inv {x : ℝ} {r v : FVec Ideal S .f32} (hx : 0 < x) (h : Stage x 0 1 r v) (j : S.Idx) : v j = inv (x : EReal) := by
  obtain ⟨k, hr, hv, h0, h1⟩ := h
  have two : (0 : ℝ) < 2 := by norm_num
  have l2 : 0 < Real.log 2 := Real.log_pos (by norm_num)
  have hp : (0 : ℝ) < 2 ^ k := zpow_pos two k
  have hlog : Real.log (x * 2 ^ k) = Real.log x + k * Real.log 2 := by
    rw [Real.log_mul hx.ne' hp.ne', Real.log_zpow]
  have hfl : ⌊Real.log x / Real.log 2⌋ = -k := by
    rw [Int.floor_eq_iff]
    constructor
    · rw [le_div_iff₀ l2]
      have : 0 ≤ Real.log (x * 2 ^ k) := Real.log_nonneg (by simpa using h0)
      push_cast; linarith
    · rw [div_lt_iff₀ l2]
      have : Real.log (x * 2 ^ k) < Real.log 2 := Real.log_lt_log (mul_pos hx hp) (by simpa using h1)
      push_cast; linarith
  rw [hv j]
  show _ = Scale.inv _
  unfold Scale.inv
  rw [Ideal.log_coe, if_neg (not_le.mpr hx), Ideal.log_coe, if_neg (by norm_num), Ideal.div_coe l2.ne', ← EReal.coe_mul,
    Ideal.liftRound_coe, ← EReal.coe_zero, ← EReal.coe_sub, Ideal.exp2_coe]
  rw [mul_one_div, hfl]
  norm_num

end Cert.Scale

end
-- ==== Proof.Codes.lean ====
/-
  The kernel's quantiser, elementwise: for a normal scale the codes of a block are the block times the reference's
  inverse of the scale, kept between -448 and 448.
-/
module

public import proofs.«01_k».proof.Proof.Body
public import proofs.«01_k».proof.Proof.Scale
public import proofs.«01_k».proof.Proof.Gen.ReferenceIdeal.Skeleton
public import Idealize.ShloMosaic.Lib.Pipeline.Value
public import Idealize.ShloMosaic.PureOps.Ideal.Laws

@[expose] public section

noncomputable section

namespace Cert.KernelIdeal.Codes

open Idealize.ShloMosaic Cert.KernelIdeal.Gen Cert.KernelIdeal.Body Cert.Scale

/-- A power of two from its bits; the side conditions are computed. -/
theorem p2 (b : BitVec 32) (n : ℤ) (hs : b.extractLsb' 31 1 = 0#1 := by decide)
    (hf : (b.extractLsb' 0 23).toNat = 0 := by decide) (he : ((b.extractLsb' 23 8).toNat : ℤ) = n + 127 := by decide)
    (h0 : -126 ≤ n := by decide) (h1 : n ≤ 127 := by decide) : Ideal.ofBits .f32 b = (((2 : ℝ) ^ n : ℝ) : EReal) :=
  ofBits_pow2 b n hs hf he h0 h1

/-- The first four steps down: the scale is below `2^8`. -/
theorem stage8 (x : ℝ) (h0 : (2 : ℝ) ^ (-127 : ℤ) ≤ x) (h1 : x < (2 : ℝ) ^ (128 : ℤ)) :
    Stage x (-127) 8 (k0_pay12 (F := Ideal) ((x : ℝ) : EReal)) (k0_pay13 (F := Ideal) ((x : ℝ) : EReal)) := by
  have s0 : Stage x (-127) (64 + 64) (k0_pay4 (F := Ideal) ((x : ℝ) : EReal)) (broadcast S1x128 (Ideal.ofBits .f32 0x3F800000#32)) :=
    ⟨0, fun j => by rw [zpow_zero, mul_one]; rfl, fun j => p2 _ 0, by rw [zpow_zero, mul_one]; exact h0, by rw [zpow_zero, mul_one]; exact h1⟩
  have s1 : Stage x (-127) (32 + 32) _ _ := s0.up 64 (Ideal.ofBits .f32 0x5F800000#32) (Ideal.ofBits .f32 0x1F800000#32) (p2 _ _) (p2 _ _) (by decide)
  have s2 : Stage x (-127) (16 + 16) _ _ := s1.up 32 (Ideal.ofBits .f32 0x4F800000#32) (Ideal.ofBits .f32 0x2F800000#32) (p2 _ _) (p2 _ _) (by decide)
  have s3 : Stage x (-127) (8 + 8) _ _ := s2.up 16 (Ideal.ofBits .f32 0x47800000#32) (Ideal.ofBits .f32 0x37800000#32) (p2 _ _) (p2 _ _) (by decide)
  have s4 : Stage x (-127) 8 _ _ := s3.up 8 (Ideal.ofBits .f32 0x43800000#32) (Ideal.ofBits .f32 0x3B800000#32) (p2 _ _) (p2 _ _) (by decide)
  exact s4

/-- The factor after the fifth step. -/
abbrev v5 (s : EReal) : FVec Ideal S1x128 .f32 := select (k0_pay14 (F := Ideal) s) (k0_pay16 (F := Ideal) s) (k0_pay13 (F := Ideal) s)

/-- The fifth step: the scale is below `2^4`. -/
theorem stage4 (x : ℝ) (h0 : (2 : ℝ) ^ (-127 : ℤ) ≤ x) (h1 : x < (2 : ℝ) ^ (128 : ℤ)) :
    Stage x (-127) 4 (k0_pay15 (F := Ideal) ((x : ℝ) : EReal)) (v5 ((x : ℝ) : EReal)) :=
  (show Stage x (-127) (4 + 4) _ _ from stage8 x h0 h1).up 4 (Ideal.ofBits .f32 0x41800000#32) (Ideal.ofBits .f32 0x3D800000#32) (p2 _ _) (p2 _ _) (by decide)

/-- The last two steps down and the first three up: the scale is below 2 and at least `2^(-15)`. -/
theorem stage16 (x : ℝ) (r v34 v41 : FVec Ideal S1x128 .f32) (v36 : IVec S1x128 1) (h : Stage x (-127) 4 r (select v36 v41 v34)) :
    Stage x (-15) 1 (k0_pay26 (F := Ideal) r) (k0_pay27 (F := Ideal) v34 v36 r v41) := by
  have s5 : Stage x (-127) (2 + 2) r (select v36 v41 v34) := h

  have s6 : Stage x (-127) (1 + 1) _ _ := s5.up 2 (Ideal.ofBits .f32 0x40800000#32) (Ideal.ofBits .f32 0x3E800000#32) (p2 _ _) (p2 _ _) (by decide)
  have s7 : Stage x (1 - 64 - 64) 1 _ _ := s6.up 1 (Ideal.ofBits .f32 0x40000000#32) (Ideal.ofBits .f32 0x3F000000#32) (p2 _ _) (p2 _ _) (by decide)
  have s8 : Stage x (1 - 32 - 32) 1 _ _ := s7.down 64 (Ideal.ofBits .f32 0x20000000#32) (Ideal.ofBits .f32 0x5F800000#32) (p2 _ _) (p2 _ _) (by decide)
  have s9 : Stage x (1 - 16 - 16) 1 _ _ := s8.down 32 (Ideal.ofBits .f32 0x30000000#32) (Ideal.ofBits .f32 0x4F800000#32) (p2 _ _) (p2 _ _) (by decide)
  have s10 : Stage x (1 - 8 - 8) 1 _ _ := s9.down 16 (Ideal.ofBits .f32 0x38000000#32) (Ideal.ofBits .f32 0x47800000#32) (p2 _ _) (p2 _ _) (by decide)
  exact s10

/-- The factor through the last four steps, which take `v` from a scale `r`. -/
abbrev last (r v : FVec Ideal S1x128 .f32) : FVec Ideal S1x128 .f32 :=
  let r8 := downR (Ideal.ofBits .f32 0x3C000000#32) (Ideal.ofBits .f32 0x43800000#32) r
  let v8 := downV (Ideal.ofBits .f32 0x3C000000#32) (Ideal.ofBits .f32 0x43800000#32) r v
  let r4 := downR (Ideal.ofBits .f32 0x3E000000#32) (Ideal.ofBits .f32 0x41800000#32) r8
  let v4 := downV (Ideal.ofBits .f32 0x3E000000#32) (Ideal.ofBits .f32 0x41800000#32) r8 v8
  let r2 := downR (Ideal.ofBits .f32 0x3F000000#32) (Ideal.ofBits .f32 0x40800000#32) r4
  let v2 := downV (Ideal.ofBits .f32 0x3F000000#32) (Ideal.ofBits .f32 0x40800000#32) r4 v4
  downV (Ideal.ofBits .f32 0x3F800000#32) (Ideal.ofBits .f32 0x40000000#32) r2 v2

/-- After the last four steps the factor is the inverse. -/
theorem last_eq (x : ℝ) (hx : 0 < x) (r v : FVec Ideal S1x128 .f32) (h : Stage x (-15) 1 r v) (j : S1x128.Idx) :
    last r v j = inv (x : EReal) := by
  have s10 : Stage x (1 - 8 - 8) 1 r v := h
  have s11 : Stage x (1 - 4 - 4) 1 _ _ := s10.down 8 (Ideal.ofBits .f32 0x3C000000#32) (Ideal.ofBits .f32 0x43800000#32) (p2 _ _) (p2 _ _) (by decide)
  have s12 : Stage x (1 - 2 - 2) 1 _ _ := s11.down 4 (Ideal.ofBits .f32 0x3E000000#32) (Ideal.ofBits .f32 0x41800000#32) (p2 _ _) (p2 _ _) (by decide)
  have s13 : Stage x (1 - 1 - 1) 1 _ _ := s12.down 2 (Ideal.ofBits .f32 0x3F000000#32) (Ideal.ofBits .f32 0x40800000#32) (p2 _ _) (p2 _ _) (by decide)
  have s14 : Stage x 0 1 _ _ := s13.down 1 (Ideal.ofBits .f32 0x3F800000#32) (Ideal.ofBits .f32 0x40000000#32) (p2 _ _) (p2 _ _) (by decide)
  exact s14.inv hx j

/-- A code: the value times the inverse, kept between -448 and 448. -/
def code (s a : EReal) : EReal :=
  min (Ideal.ofBits .f32 0x43E00000#32) (max (Ideal.ofBits .f32 0xC3E00000#32) (a * inv s))

/-- THE BLOCK'S CODES. -/
theorem codesW_apply (x : ℝ) (h0 : (2 : ℝ) ^ (-127 : ℤ) ≤ x) (h1 : x < (2 : ℝ) ^ (128 : ℤ)) (x1 : Vec Ideal S64x512 .bf16) (j : S64x512.Idx) :
    codesW (F := Ideal) ((x : ℝ) : EReal) x1 j = code x (x1 j) := by
  have hx : 0 < x := lt_of_lt_of_le (zpow_pos (by norm_num) _) h0
  have s := stage16 x _ _ _ _ (stage4 x h0 h1)
  unfold codesW
  generalize k0_pay27 (F := Ideal) _ _ _ _ = v at s ⊢
  unfold k0_pay28
  generalize k0_pay26 (F := Ideal) _ = r at s ⊢
  have e := last_eq x hx r v s
  show min (Ideal.ofBits .f32 0x43E00000#32) (max (Ideal.ofBits .f32 0xC3E00000#32)
    (shapeCast S64x512 x1 shapeCasts_S64x512_S64x512 j * last r v _)) = _
  rw [shapeCast_self, e]
  rfl

/-- The reference's inverse, read off its one-entry vector. -/
theorem ref_inv (x : ℝ) (a1 : Vec Ideal S1 .f32) (h : ∀ i, a1 i = (x : EReal)) (i : S1.Idx) :
    FloatOps.exp2 (F := Ideal) (φ := .f32) (Ideal.ofBits .f32 0x00000000#32 - FloatOps.floor (F := Ideal) (φ := .f32)
      (Ideal.div (Ideal.log (a1 i)) (Ideal.log (Ideal.ofBits .f32 0x40000000#32)))) = inv (x : EReal) := by
  rw [h i, p2 0x40000000#32 1, Idealize.ShloMosaic.Ideal.ofBits_zero_f32, zpow_one]
  rfl

/-- THE REFERENCE'S CODES. -/
theorem ref_codes_apply (x : ℝ) (a1 : Vec Ideal S1 .f32) (h : ∀ i, a1 i = (x : EReal)) (a0 : Vec Ideal S64x1x13824 .bf16)
    (j : S64x1x13824.Idx) : Cert.ReferenceIdeal.Gen.k0_pay1 (F := Ideal) a1 a0 j = code x (a0 j) := by
  have e := ref_inv x a1 h
  unfold Cert.ReferenceIdeal.Gen.k0_pay1
  show min (Ideal.ofBits .f32 0x43E00000#32) (max (Ideal.ofBits .f32 0xC3E00000#32) (a0 j * _)) = _
  unfold code
  rw [← e]
  rfl

end Cert.KernelIdeal.Codes

end
-- ==== Proof.Value.lean ====
/-
  The kernel's three results at the exact values, for a normal scale: the codes are the reference's, the products'
  sum over 27 blocks of 512 columns is the sum over the 13824 columns, and the activation of it is the reference's.
-/
module

public import proofs.«01_k».proof.Proof.Arrays
public import proofs.«01_k».proof.Proof.Codes
public import Idealize.ShloMosaic.Lib.MatmulPlain
public import Idealize.ShloMosaic.Lib.ValueIdx
public import proofs.«01_k».proof.Pre_normal_scale
public import proofs.«01_k».proof.Proof.Gen.Pre_normal_scale

@[expose] public section

set_option maxRecDepth 16384

noncomputable section

namespace Cert.KernelIdeal.Value

open Cert.KernelIdeal Cert.KernelIdeal.Gen Cert.KernelIdeal.Body Cert.KernelIdeal.Arrays Cert.KernelIdeal.Codes
open Idealize.ShloMosaic Idealize.ShloMosaic.TcCoe Idealize.ShloMosaic.ValueIdx
open scoped BigOperators

variable (m : (ℓ : Loc nD τ sig) → Buf (Elt Ideal) ℓ)

/-- What the claim's precondition says of the scale: it is a real number between `2^(-127)` and `2^128`. -/
def Normal (c : Dev nD) (x : ℝ) : Prop :=
  (∀ i, S m c i = (x : EReal)) ∧ (2 : ℝ) ^ (-127 : ℤ) ≤ x ∧ x < (2 : ℝ) ^ (128 : ℤ)

variable {m} {c : Dev nD} {x : ℝ}

/-! ## The codes -/

theorem word_eq (h : Normal m c x) (t : Fin cfg0.N) : word (xs m c t) = (x : EReal) := by
  rw [xs_eq]; exact h.1 _

theorem codesAt_apply (h : Normal m c x) (t : Fin cfg0.N) (r : Fin 64) (k : Fin 512) :
    codesAt m c t (ix2 r k) = code x (X m c (ix3 r 0 (col t k))) := by
  unfold codesAt
  rw [word_eq h, codesW_apply x h.2.1 h.2.2, xb_apply]

theorem codesAll_apply (h : Normal m c x) (r : Fin 64) (k : Fin 13824) :
    codesAll m c (ix2 r k) = code x (X m c (ix3 r 0 k)) := by
  show codesAt m c (pt k) (ix2 r (off k)) = _
  rw [codesAt_apply h, col_pt]

/-- THE SECOND RESULT is the reference's. -/
theorem res1_eq (h : Normal m c x) : res1 m c = Cert.ReferenceIdeal.Gen.k0_pay1 (F := Ideal) (S m c) (X m c) := by
  funext j
  obtain ⟨r, z, k, rfl⟩ : ∃ (r : Fin 64) (z : Fin 1) (k : Fin 13824), j = (ix3 r z k : S64x1x13824.Idx) := ⟨j 0, j 1, j 2, eq_ix3 j⟩
  obtain rfl : z = 0 := Subsingleton.elim _ _
  rw [ref_codes_apply x (S m c) h.1]
  refine (shapeCast_apply _ _ _ (ix2 r k : S64x13824.Idx) ?_).trans (codesAll_apply h r k)
  rw [Shape.rowMajor_val_three, Shape.rowMajor_val_two]; simp

/-! ## The sum -/

/-- One product of row `r` and column `n`. -/
def term (m : (ℓ : Loc nD τ sig) → Buf (Elt Ideal) ℓ) (c : Dev nD) (x : ℝ) (r : Fin 64) (n : Fin 5120) (k : Fin 13824) : EReal :=
  code x (X m c (ix3 r 0 k)) * W m c (ix2 k n)

/-- The same at any natural number, zero past the columns. -/
def termN (m : (ℓ : Loc nD τ sig) → Buf (Elt Ideal) ℓ) (c : Dev nD) (x : ℝ) (r : Fin 64) (n : Fin 5120) (k : ℕ) : EReal :=
  if h : k < 13824 then term m c x r n ⟨k, h⟩ else 0

theorem dotAt_apply (h : Normal m c x) (t : Fin cfg0.N) (r : Fin 64) (n : Fin 5120) :
    dotAt m c t (ix2 r n) = ∑ k ∈ Finset.range 512, termN m c x r n (512 * t.val + k) := by
  have e : dotAt m c t (ix2 r n) = (Ideal.ofBits .f32 0x00000000#32 : EReal) + ∑ k : Fin 512, codesAt m c t (ix2 r k) * wb m c t (ix2 k n) :=
    Ideal.matmul_plain_apply (M := 64) (K := 512) (N := 5120) none (codesAt m c t) (wb m c t) (constant S64x5120 .f32 0x00000000#32) r n
  rw [e, Idealize.ShloMosaic.Ideal.ofBits_zero_f32, zero_add, Finset.sum_range]
  refine Finset.sum_congr rfl fun k _ => ?_
  unfold termN
  rw [dif_pos (col t k).isLt, codesAt_apply h, wb_apply]
  rfl

theorem accAt_apply (h : Normal m c x) (r : Fin 64) (n : Fin 5120) : ∀ (i : ℕ) (hi : i < cfg0.N),
    accAt m c i hi (ix2 r n) = ∑ k ∈ Finset.range (512 * (i + 1)), termN m c x r n k
  | 0, hi => by
    show dotAt m c ⟨0, hi⟩ (ix2 r n) = _
    rw [dotAt_apply h]
    simp
  | i + 1, hi => by
    show accAt m c i (Nat.lt_of_succ_lt hi) (ix2 r n) + dotAt m c ⟨i + 1, hi⟩ (ix2 r n) = _
    rw [accAt_apply h r n i, dotAt_apply h, show 512 * (i + 1 + 1) = 512 * (i + 1) + 512 by ring, Finset.sum_range_add]

/-- The accumulator after the last block: the sum over all the columns. -/
theorem acc_last (h : Normal m c x) (r : Fin 64) (n : Fin 5120) :
    accAt m c t26.val t26.isLt (ix2 r n) = ∑ k : Fin 13824, term m c x r n k := by
  rw [accAt_apply h, show 512 * (t26.val + 1) = 13824 from rfl, Finset.sum_range]
  refine Finset.sum_congr rfl fun k _ => ?_
  unfold termN
  rw [dif_pos k.isLt]

/-- The reference's dimension numbers. -/
abbrev refDot : DotDims S64x1x13824 S13824x5120 S64x1x5120 := Cert.ReferenceIdeal.dot_S64x1x13824_S13824x5120_S64x1x5120_2_0_01_1_n_n

theorem refDot_rank : refDot.contr.rank = 1 := rfl
theorem refDot_size : refDot.contr.size ⟨0, by rw [refDot_rank]; exact Nat.one_pos⟩ = 13824 := rfl

/-- The reference's product, read at an index. -/
theorem ref_dot (h : Normal m c x) (r : Fin 64) (n : Fin 5120) :
    FloatOps.matmul (φ₂ := .fp8e4m3) refDot none (Cert.ReferenceIdeal.Gen.k0_pay1 (F := Ideal) (S m c) (X m c)) (W m c)
      (constant S64x1x5120 .f32 0x00000000#32) (ix3 r 0 n) = ∑ k : Fin 13824, term m c x r n k := by
  rw [Idealize.ShloMosaic.Ideal.matmul_constant_zero_apply, ← Equiv.sum_comp (contrEquiv1 refDot 13824 refDot_rank refDot_size).symm]
  refine Finset.sum_congr rfl fun k _ => ?_
  have hk := contrEquiv1_symm_val refDot 13824 refDot_rank refDot_size k
  have el : refDot.lhsIdx (ix3 r 0 n) ((contrEquiv1 refDot 13824 refDot_rank refDot_size).symm k) = ix3 r 0 k := by
    funext a; apply Fin.ext
    match a with
    | ⟨0, _⟩ => rfl
    | ⟨1, _⟩ => rfl
    | ⟨2, _⟩ => exact hk
  have er : refDot.rhsIdx (ix3 r 0 n) ((contrEquiv1 refDot 13824 refDot_rank refDot_size).symm k) = ix2 k n := by
    funext a; apply Fin.ext
    match a with
    | ⟨0, _⟩ => exact hk
    | ⟨1, _⟩ => rfl
  rw [el, er, ref_codes_apply x (S m c) h.1]
  rfl

/-! ## The activation -/

/-- The activation of a scaled sum. -/
def gelu (z : EReal) : EReal :=
  (Ideal.ofBits .f32 0x3F000000#32 * z) * (Ideal.ofBits .f32 0x3F800000#32 + Ideal.tanh (Ideal.ofBits .f32 0x3F4C422A#32
    * (z + Ideal.ofBits .f32 0x3D372713#32 * z * z * z)))

theorem pay3_apply (acc : Vec Ideal S64x5120 .f32) (s : EReal) (w : Vec Ideal S1x5120 .f32) (r : Fin 64) (n : Fin 5120) :
    k0_pay3 (F := Ideal) acc s w (ix2 r n) = gelu (acc (ix2 r n) * (s * w (ix2 0 n))) := by
  have e : broadcastTo S64x5120 (mulf (broadcast S1x5120 s : FVec Ideal S1x5120 .f32) (shapeCast S1x5120 w shapeCasts_S1x5120_S1x5120)) broadcasts_S1x5120_S64x5120 (ix2 r n)
      = s * w (ix2 0 n) := by
    rw [shapeCast_self]
    exact broadcastTo_1b_ab_apply _ _ _ _
  rw [← e]
  rfl

theorem ref_pay2_apply (s : Vec Ideal S1 .f32) (x0 : Vec Ideal S64x1x13824 .bf16) (w : Vec Ideal S13824x5120 .fp8e4m3) (sc : Vec Ideal S5120 .f32)
    (a : EReal) (hs : ∀ i, s i = a) (r : Fin 64) (n : Fin 5120) :
    Cert.ReferenceIdeal.Gen.k0_pay2 (F := Ideal) s x0 w sc (ix3 r 0 n)
      = gelu (FloatOps.matmul (φ₂ := .fp8e4m3) refDot none (Cert.ReferenceIdeal.Gen.k0_pay1 (F := Ideal) s x0) w
          (constant S64x1x5120 .f32 0x00000000#32) (ix3 r 0 n) * (a * sc (ix1 n))) := by
  have e : ∀ b : EReal, broadcastTo S64x1x5120 (shapeCast Cert.ReferenceIdeal.S1x1x5120 (mulf (broadcast S5120 b : FVec Ideal S5120 .f32) sc)
      Cert.ReferenceIdeal.Gen.shapeCasts_S5120_S1x1x5120) Cert.ReferenceIdeal.Gen.broadcasts_S1x1x5120_S64x1x5120 (ix3 r 0 n) = b * sc (ix1 n) := fun b => by
    rw [broadcastTo_apply _ _ _ (ix3 0 0 n : (⟨3, ![1, 1, 5120]⟩ : Shape).Idx) (fun a => by
      match a with
      | ⟨0, _⟩ => rfl
      | ⟨1, _⟩ => rfl
      | ⟨2, _⟩ => rfl)]
    refine (shapeCast_apply _ _ _ (ix1 n : (⟨1, ![5120]⟩ : Shape).Idx) ?_).trans rfl
    rw [Shape.rowMajor_val_three, Shape.rowMajor_val_one]; simp
  have ex : extractAt ![0] s Cert.ReferenceIdeal.Gen.inpos_S1_p0 = a := hs _
  rw [← ex, ← e]
  rfl

/-- THE FIRST RESULT is the reference's. -/
theorem res0_eq (h : Normal m c x) : res0 m c = Cert.ReferenceIdeal.Gen.k0_pay2 (F := Ideal) (S m c) (X m c) (W m c) (WS m c) := by
  funext j
  obtain ⟨r, z, n, rfl⟩ : ∃ (r : Fin 64) (z : Fin 1) (n : Fin 5120), j = (ix3 r z n : S64x1x5120.Idx) := ⟨j 0, j 1, j 2, eq_ix3 j⟩
  obtain rfl : z = 0 := Subsingleton.elim _ _
  rw [ref_pay2_apply _ _ _ _ x h.1, ref_dot h]
  refine (shapeCast_apply _ _ _ (ix2 r n : S64x5120.Idx) ?_).trans ?_
  · rw [Shape.rowMajor_val_three, Shape.rowMajor_val_two]; simp
  · unfold actAt
    rw [pay3_apply, word_eq h, acc_last h, ws_apply]

/-! ## The precondition -/

/-- The largest finite number is below `2^128`. -/
theorem max_lt : Ideal.ofBits .f32 0x7F7FFFFF#32 < (((2 : ℝ) ^ (128 : ℤ) : ℝ) : EReal) := by
  have e0 : (0x7F7FFFFF#32 : BitVec 32).extractLsb' 31 1 = 0#1 := by decide
  have e1 : ((0x7F7FFFFF#32 : BitVec 32).extractLsb' 23 8).toNat = 254 := by decide
  have e2 : ((0x7F7FFFFF#32 : BitVec 32).extractLsb' 0 23).toNat = 8388607 := by decide
  simp only [Ideal.ofBits, Ideal.ieee]
  rw [e0, e1, e2, if_neg (by norm_num), if_neg (by norm_num)]
  norm_num

theorem one_of_and : ∀ a b : BitVec 1, a &&& b = 1#1 → a = 1#1 ∧ b = 1#1 := by decide

theorem of_bit {p : Prop} [Decidable p] (h : BitVec.ofBool (decide p) = 1#1) : p := by
  by_contra hp
  rw [decide_eq_false hp] at h
  exact absurd h (by decide)

/-- The precondition gives a normal scale. -/
theorem normal_of_pre (h : Cert.Pre_normal_scale.fn (F := Ideal) (X m c) (S m c) (W m c) (WS m c) = fun _ => 1#1) :
    ∃ x : ℝ, Normal m c x := by
  obtain ⟨lo, hi⟩ := one_of_and _ _ (congrFun h (ix1 0 : S1.Idx))
  have lo' : Ideal.ofBits .f32 0x00800000#32 ≤ S m c (ix1 0) := of_bit lo
  have hi' : S m c (ix1 0) ≤ Ideal.ofBits .f32 0x7F7FFFFF#32 := of_bit hi
  rw [p2 0x00800000#32 (-126)] at lo'
  have hi'' := lt_of_le_of_lt hi' max_lt
  have all : ∀ i, S m c i = S m c (ix1 0) := fun i => one_word _ _ _
  generalize S m c (ix1 0) = s at lo' hi'' all
  change EReal at s
  induction s using EReal.rec with
  | bot => exact absurd lo' (by simp)
  | top => exact absurd hi'' (by simp)
  | coe x =>
    refine ⟨x, all, le_trans ?_ (EReal.coe_le_coe_iff.mp lo'), EReal.coe_lt_coe_iff.mp hi''⟩
    exact zpow_le_zpow_right₀ (by norm_num) (by norm_num)

end Cert.KernelIdeal.Value

end
-- ==== Proof.Same.lean ====
/-
  The kernel and its idealization are the same text, printed under two names: no operation was rewritten. So their
  body tables and their mains are equal, at any reading of the floats, and the frame proved of one is the other's.
-/
module

public import proofs.«01_k».proof.Proof.Gen.Kernel
public import proofs.«01_k».proof.Proof.Gen.KernelIdeal
public import proofs.«01_k».proof.Proof.Frame

@[expose] public section

set_option maxRecDepth 65536
set_option maxHeartbeats 2000000

noncomputable section
namespace Cert.Same
open Idealize.ShloMosaic Idealize.SL.Sem
variable {F : FTy → Type} [FloatOps F]

/-- The tables of the kernel's body are equal: one label, its body the same text. -/
theorem defs0 : @Cert.Kernel.defs₀ F _ _ = @Cert.KernelIdeal.defs₀ F _ _ := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀) (Val := Elt F)) ?_
  funext l a
  match l, a with
  | ⟨0, _⟩, (t, s) => rfl

/-- The pipelines are equal. -/
theorem pcfgs : @Cert.Kernel.pcfgs F _ = @Cert.KernelIdeal.pcfgs F _ := rfl

/-- The body tables are equal. -/
theorem defs : @Cert.Kernel.defs F _ _ = @Cert.KernelIdeal.defs F _ _ :=
  congrArg (Pipeline.defs (Cert.KernelIdeal.pcfgs (F := F))) defs0

/-- The mains are equal. -/
theorem main : Cert.Kernel.main (F := F) = Cert.KernelIdeal.main (F := F) := rfl

open Cert.Kernel Idealize.ShloMosaic.TcCoe in
/-- The kernel's frame: it runs, its arguments end unchanged and every counter ends at zero. -/
theorem frame (m : (ℓ : Loc nD τ sig) → Buf (Elt F) ℓ) (ρ : Dev nD → PrngReg) :
    θ_run (Cert.Kernel.defs (F := F)) (onTc (τ := τ) (Cert.Kernel.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs, main]
  exact Cert.KernelIdeal.Body.frame m ρ

end Cert.Same
end
-- ==== Proof.lean ====
module

public import proofs.«01_k».proof.Proof.Gen.ReferenceIdeal.Value
public import proofs.«01_k».proof.Defs
public import proofs.«01_k».proof.Proof.Value
public import proofs.«01_k».proof.Proof.Same
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_normal_scale
public import Idealize.ShloMosaic.Adequacy
public import Idealize.ShloMosaic.Init

@[expose] public section

noncomputable section

namespace Cert.Proof

open Idealize.ShloMosaic Idealize.SL.Sem Cert.Kernel

/-- The kernel and the reference give equal results at the exact values, for a normal scale. -/
theorem algebraic : Cert.algebraic_KernelIdeal_ReferenceIdeal_pre_normal_scale := by
  intro m g m' g' pre same
  refine ⟨Cert.KernelIdeal.Arrays.res0 m, Cert.KernelIdeal.Arrays.res1 m, Cert.KernelIdeal.Arrays.S m,
    Cert.KernelIdeal.Arrays.run m g, (θ_run _ _ _).mono ?_ (Cert.ReferenceIdeal.Value.run m' g')⟩
  intro r h c
  obtain ⟨x, hx⟩ := Cert.KernelIdeal.Value.normal_of_pre (m := m) (c := c) (pre c)
  obtain ⟨s0, s1, s2, s3⟩ := same c
  obtain ⟨h0, h1, h2, rest⟩ := h c
  refine ⟨h0.trans ?_, h1.trans ?_, h2.trans ?_, rest⟩
  · rw [Cert.KernelIdeal.Value.res0_eq hx]
    show Cert.ReferenceIdeal.Gen.k0_pay2 _ _ _ _ = _
    rw [s0, s1, s2, s3]
  · rw [Cert.KernelIdeal.Value.res1_eq hx]
    show Cert.ReferenceIdeal.Gen.k0_pay1 _ _ = _
    rw [s0, s1]
  · exact s1

theorem claim : Cert.Claim :=
  ⟨Cert.Kernel.Gen.facts, Cert.KernelIdeal.Gen.facts, Cert.ReferenceIdeal.Gen.facts, Cert.Pre_normal_scale.Gen.facts,
    fun m g _ => Cert.Same.frame m g,
    fun m g _ => Cert.KernelIdeal.Body.frame m g,
    fun m g _ => Cert.KernelIdeal.Body.frame m g,
    fun m g _ => Cert.ReferenceIdeal.Gen.frame m g,
    fun m g _ => Cert.ReferenceIdeal.Gen.frame m g,
    trivial,
    algebraic⟩

end Cert.Proof

end
